-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x20 : Shape := ⟨2, ![1024, 20]⟩
abbrev S20x1024 : Shape := ⟨2, ![20, 1024]⟩
abbrev S20x1000x1024 : Shape := ⟨3, ![20, 1000, 1024]⟩
abbrev S1x1000x1024 : Shape := ⟨3, ![1, 1000, 1024]⟩
abbrev S1x1024 : Shape := ⟨2, ![1, 1024]⟩
abbrev S1x1x1024 : Shape := ⟨3, ![1, 1, 1024]⟩
abbrev S1024x20x1000 : Shape := ⟨3, ![1024, 20, 1000]⟩

abbrev nBuf : Space → Nat
  | .hbm => 4
  | .vmem => 3
  | .smem => 0
  | _ => 0

abbrev bufTy : (tb : Table) → Fin (tcTables nBuf tb) → BufTy
  | .hbm, ⟨0, _⟩ => ⟨S1024x20, .i32⟩
  | .hbm, ⟨1, _⟩ => ⟨S20x1024, .i32⟩
  | .hbm, ⟨2, _⟩ => ⟨S20x1000x1024, .f32⟩
  | .hbm, ⟨3, _⟩ => ⟨S1024x20x1000, .f32⟩
  | .local _ .vmem, ⟨0, _⟩ => ⟨S20x1024, .i32⟩
  | .local _ .vmem, ⟨1, _⟩ => ⟨S1x1000x1024, .f32⟩
  | .local _ .vmem, ⟨2, _⟩ => ⟨S1x1000x1024, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x20 : Shape := ⟨2, ![1024, 20]⟩
abbrev S1024x20x1 : Shape := ⟨3, ![1024, 20, 1]⟩
abbrev S1x1x1000 : Shape := ⟨3, ![1, 1, 1000]⟩
abbrev S1024x20x1000 : Shape := ⟨3, ![1024, 20, 1000]⟩

abbrev nBuf : Space → Nat
  | .hbm => 7
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1024x20x1, .i32⟩
  | .hbm, ⟨2, _⟩ => ⟨S1x1x1000, .i32⟩
  | .hbm, ⟨3, _⟩ => ⟨S1024x20x1000, .i32⟩
  | .hbm, ⟨4, _⟩ => ⟨S1024x20x1000, .i32⟩
  | .hbm, ⟨5, _⟩ => ⟨S1024x20x1000, .i1⟩
  | .hbm, ⟨6, _⟩ => ⟨S1024x20x1000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Block.lean ====
/- What one grid point of the kernel writes: the one-hot rows of one column of the index array, classes on the
   middle axis. -/
module

public import proofs.«01_k».proof.Proof.Gen.KernelIdeal.Frame
public import Idealize.ShloMosaic.Lib.Pipeline.Value
public import Idealize.ShloMosaic.Lib.Pipeline.ValueKit
public import Idealize.ShloMosaic.PureOps.Ideal

@[expose] public section

noncomputable section

namespace Cert.OneHot

open Cert.KernelIdeal Cert.KernelIdeal.Gen
open Idealize.ShloMosaic Idealize.ShloMosaic.TcCoe

/-- The one-hot entry of class `k` for the index word `v`: one if `v` is the word of `k`, else zero. -/
def hot (v : BitVec 32) (k : Nat) : Elt Ideal .f32 := ((if v = BitVec.ofNat 32 k then 1 else 0 : ℝ) : EReal)

/-- The comparison of class and index, widened to a 32-bit word and converted as a signed number, is the one-hot entry. -/
theorem sitofp_eq_hot (v : BitVec 32) (k : Nat) :
    (FloatOps.sitofp (F := Ideal) .f32 ((IntOp.cmpi .eq (BitVec.ofNat 32 k) v).setWidth 32) : Elt Ideal .f32) = hot v k := by
  show (((((IntOp.cmpi .eq (BitVec.ofNat 32 k) v).setWidth 32).toInt : ℤ) : ℝ) : EReal) = _
  unfold hot
  by_cases h : v = BitVec.ofNat 32 k
  · subst h; simp [IntOp.cmpi]
  · have h' : (BitVec.ofNat 32 k == v) = false := beq_eq_false_iff_ne.mpr fun e => h e.symm
    simp [IntOp.cmpi, h, h']

/-- The comparison of index and class, converted as an unsigned bit, is the same entry. -/
theorem uitofp_eq_hot (v : BitVec 32) (k : Nat) :
    (FloatOps.uitofp (F := Ideal) .f32 (IntOp.cmpi .eq v (BitVec.ofNat 32 k)) : Elt Ideal .f32) = hot v k := by
  show ((((IntOp.cmpi .eq v (BitVec.ofNat 32 k)).toNat : ℕ) : ℝ) : EReal) = _
  unfold hot
  by_cases h : v = BitVec.ofNat 32 k
  · subst h; simp [IntOp.cmpi]
  · simp [IntOp.cmpi, h]

/-- The body's stored value at (0, k, b): the one-hot entry of class `k` for the loaded row's word `b`. -/
theorem payload_apply (v : Vec Ideal S1x1024 .i32) (y : S1x1000x1024.Idx) (z : S1x1024.Idx) (hz : (z 1).val = (y 2).val) :
    k0_pay1 v y = hot (v z) (y 1).val := by
  have z0 : (z 0).val = 0 := by have : (z 0).val < 1 := (z 0).isLt; omega
  have row : broadcastTo S1x1000x1024 (shapeCast S1x1x1024 (shapeCast S1x1024 v shapeCasts_S1x1024_S1x1024)
      shapeCasts_S1x1024_S1x1x1024) broadcasts_S1x1x1024_S1x1000x1024 y = v z := by
    refine (broadcastTo_apply _ _ y (show S1x1x1024.Idx from fun | ⟨0, _⟩ => ⟨0, Nat.one_pos⟩ | ⟨1, _⟩ => ⟨0, Nat.one_pos⟩ | ⟨2, _⟩ => y 2) ?_).trans ?_
    · intro a; match a with | ⟨0, _⟩ => rfl | ⟨1, _⟩ => rfl | ⟨2, _⟩ => rfl
    · rw [shapeCast_self]
      refine shapeCast_apply _ _ _ z ?_
      rw [Shape.rowMajor_val_two, Shape.rowMajor_val_three]
      show (z 0).val * 1024 + (z 1).val = (0 * 1 + 0) * 1024 + (y 2).val
      omega
  rw [← row, ← sitofp_eq_hot]
  show FloatOps.sitofp (F := Ideal) .f32 ((IntOp.cmpi .eq (iota .tc S1x1000x1024 32 [1] iota_S1x1000x1024_d1_w32 y) _).setWidth 32) = _
  rw [iota_single_apply]

/-- What point `i`'s body leaves in the output's staging buffer, at (0, k, b): the one-hot entry of class `k` for the
    word at row `i`, column `b` of the staged index array. -/
theorem out_apply (c : Dev nD) (i : grid0.Coords) (arg1 : Memref sig .tc .vmem S20x1024 .i32) (harg1 : arg1.IsWhole)
    (arg2 : Memref sig .tc .vmem S1x1000x1024 .f32) (harg2 : arg2.IsWhole) (x0 : Vec Ideal S20x1024 .i32)
    (y : S1x1000x1024.Idx) (z : S20x1024.Idx) (h0 : (z 0).val = (i 0).val) (h1 : (z 1).val = (y 2).val) :
    out0_A_1 c i arg1 harg1 arg2 harg2 x0 y = hot (x0 z) (y 1).val := by
  frame_out
  rw [payload_apply _ y (fun | ⟨0, _⟩ => ⟨0, Nat.one_pos⟩ | ⟨1, _⟩ => y 2) rfl]
  -- the load at the rectangle whose corner is (i, 0) reads row `i`
  have hi : (i 0).val < 20 := (i 0).isLt
  have off : k0_off1 i 0 = (i 0).val := by
    show (BitVec.ofNat 32 (i 0).val).toNat = _
    rw [BitVec.toNat_ofNat]
    omega
  refine congrArg (fun w => hot (x0 w) (y 1).val) (funext fun a => Fin.ext ?_)
  match a with
  | ⟨0, _⟩ =>
    show k0_off1 i 0 + 1 * 0 = (z 0).val
    omega
  | ⟨1, _⟩ =>
    show 0 + 1 * (y 2).val = (z 1).val
    omega

end Cert.OneHot

end
-- ==== Proof.Array.lean ====
/- What the arrays hold at the end: the pallas_call's result, class-major, and the kernel's result after the last
   transpose. -/
module

public import proofs.«01_k».proof.Proof.Block

@[expose] public section

noncomputable section

namespace Cert.OneHot

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mathematics: the one-hot encoding of an index array, at (b, j, k) the entry of class `k` for the word at (b, j). -/
def oneHot (x : Vec Ideal S1024x20 .i32) : Vec Ideal S1024x20x1000 .f32 :=
  fun y => hot (x (fun | ⟨0, _⟩ => y 0 | ⟨1, _⟩ => y 1)) (y 2).val

/-- The same laid out as the pallas_call leaves it: (j, k, b). -/
def oneHotT (x : Vec Ideal S1024x20 .i32) : Vec Ideal S20x1000x1024 .f32 :=
  fun y => hot (x (fun | ⟨0, _⟩ => y 2 | ⟨1, _⟩ => y 0)) (y 1).val

/-- The call's index operand is the argument's transpose. -/
theorem V_v0 (c : Dev nD) :
    V m c main_v0 = transpose S20x1024 [1, 0] (m ((c : Thread nD τ).loc main_arg0)) transposes_S1024x20_S20x1024_1_0 := by
  dsimp only [V, V0, hostOps0, List.flatten_cons, List.flatten_nil, List.append_nil, List.cons_append, List.nil_append]
  rw [StableHlo.after_cons, StableHlo.after_nil]
  exact StableHlo.unary_result ..

/-- Every index of the grid is its one coordinate. -/
theorem coords_val : ∀ t : Fin cfg0.N, ((grid0.coords t) 0).val = t.val :=
  (by decide +kernel : ∀ t : Fin grid0.N, ((grid0.coords t) 0).val = t.val)

/-- The operand's window is the whole array at every point; the result's is slab `t`. -/
theorem index_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The staged operand at (j, b) is the argument at (b, j). -/
theorem iblk_apply (c : Dev nD) (t : Fin cfg0.N) (z : S20x1024.Idx) :
    iblk m c 0 t z = m ((c : Thread nD τ).loc main_arg0) (fun | ⟨0, _⟩ => z 1 | ⟨1, _⟩ => z 0) := by
  obtain ⟨e0, e1, -, -, -⟩ := index_facts t
  have emb : ((cfg0.win 0).blk t).view.emb z = z := by
    funext a; apply Fin.ext
    match a with
    | ⟨0, _⟩ => show win0_0.index t (0 : Fin 2) * 20 + 1 * (z 0).val = (z 0).val; omega
    | ⟨1, _⟩ => show win0_0.index t (1 : Fin 2) * 1024 + 1 * (z 1).val = (z 1).val; omega
  show V m c main_v0 (((cfg0.win 0).blk t).view.emb z) = _
  rw [emb, V_v0]
  refine transpose_apply _ _ _ z _ fun b => ?_
  match b with | ⟨0, _⟩ => rfl | ⟨1, _⟩ => rfl

/-- What point `t` writes back is slab `t` of the class-major one-hot array. -/
theorem flushed_eq (c : Dev nD) (t : Fin cfg0.N) :
    (dats m 0 c).flushed 1 t = ((cfg0.win 1).blk t).view.read (Elt Ideal) (oneHotT (m ((c : Thread nD τ).loc main_arg0))) := by
  obtain ⟨-, -, e0, e1, e2⟩ := index_facts t
  show (cfg0.win 1).cut (grid0.coords t) ((dats m 0 c).after 1 t) = _
  rw [after0_1]
  funext y
  show outsAt0 m c t y = oneHotT (m ((c : Thread nD τ).loc main_arg0)) (((cfg0.win 1).blk t).view.emb y)
  have hy : (y (0 : Fin 3)).val < 1 := (y (0 : Fin 3)).isLt
  have ht : t.val < 20 := t.isLt
  unfold outsAt0
  rw [out_apply c _ _ _ _ _ _ y (fun | ⟨0, _⟩ => ⟨t.val, ht⟩ | ⟨1, _⟩ => y (2 : Fin 3)) (coords_val t).symm rfl, iblk_apply]
  unfold oneHotT
  have k0 : (((cfg0.win 1).blk t).view.emb y (0 : Fin 3)).val = t.val := by
    show win0_1.index t (0 : Fin 3) * 1 + 1 * (y (0 : Fin 3)).val = _; omega
  have k1 : (((cfg0.win 1).blk t).view.emb y (1 : Fin 3)).val = (y (1 : Fin 3)).val := by
    show win0_1.index t (1 : Fin 3) * 1000 + 1 * (y (1 : Fin 3)).val = _; omega
  have k2 : (((cfg0.win 1).blk t).view.emb y (2 : Fin 3)).val = (y (2 : Fin 3)).val := by
    show win0_1.index t (2 : Fin 3) * 1024 + 1 * (y (2 : Fin 3)).val = _; omega
  refine congr (congrArg hot (congrArg _ ?_)) k1.symm
  funext a; apply Fin.ext
  match a with | ⟨0, _⟩ => exact k2.symm | ⟨1, _⟩ => exact k0.symm

/-- Every element of the call's result is in the slab of its first coordinate. -/
theorem cover (i : S20x1000x1024.Idx) :
    ∃ t : Fin cfg0.N, (cfg0.win 1).flush t = true ∧ i ∈ ((cfg0.win 1).blk t).view.set := by
  let t : Fin cfg0.N := ⟨(i 0).val, (i 0).isLt⟩
  refine ⟨t, flush0_1 _, ?_⟩
  obtain ⟨-, -, e0, e1, e2⟩ := index_facts t
  have e : ((cfg0.win 1).blk t).view.emb (show S1x1000x1024.Idx from fun | ⟨0, _⟩ => ⟨0, Nat.one_pos⟩ | ⟨1, _⟩ => i 1 | ⟨2, _⟩ => i 2) = i := by
    funext a; apply Fin.ext
    match a with
    | ⟨0, _⟩ => show win0_1.index t (0 : Fin 3) * 1 + 1 * 0 = (i 0).val; rw [e0]; show (i 0).val * 1 + 1 * 0 = _; omega
    | ⟨1, _⟩ => show win0_1.index t (1 : Fin 3) * 1000 + 1 * (i 1).val = (i 1).val; omega
    | ⟨2, _⟩ => show win0_1.index t (2 : Fin 3) * 1024 + 1 * (i 2).val = (i 2).val; omega
  exact e ▸ View.emb_mem_set _ _

/-- The call's result array ends at the class-major one-hot encoding. -/
theorem arr_eq (c : Dev nD) : (dats m 0 c).arrAt 1 cfg0.N = oneHotT (m ((c : Thread nD τ).loc main_arg0)) :=
  (dats m 0 c).arrAt_eq_of_cover 1 _ (fun t _ => flushed_eq m c t) cover

/-- Transposed by the last line of the program, it is the one-hot encoding of the argument. -/
theorem result_eq (c : Dev nD) :
    Pipeline.afterTail₀ cfgs (dats m) 0 (V0 m) [hostOps1] c main_v2 = oneHot (m ((c : Thread nD τ).loc main_arg0)) := by
  unfold Pipeline.afterTail₀
  dsimp only [hostOps1, List.flatten_cons, List.flatten_nil, List.append_nil, List.cons_append, List.nil_append]
  rw [StableHlo.after_cons, StableHlo.after_nil]
  refine (StableHlo.unary_result ..).trans ?_
  have harr := (Pipeline.withArrays_arr spec0 launch0.win.arr_inj c (V0 m c) (fun w => (dats m 0 c).arrAt w cfg0.N) 1).trans (arr_eq m c)
  refine (congrArg (fun v => transpose S1024x20x1000 [2, 0, 1] v transposes_S20x1000x1024_S1024x20x1000_2_0_1) harr).trans ?_
  funext y
  refine (transpose_apply _ _ _ y (show S20x1000x1024.Idx from fun | ⟨0, _⟩ => y 1 | ⟨1, _⟩ => y 2 | ⟨2, _⟩ => y 0) fun b => ?_).trans rfl
  match b with | ⟨0, _⟩ => rfl | ⟨1, _⟩ => rfl | ⟨2, _⟩ => rfl

/-- THE KERNEL'S RUN, READ: it ends with its result at the one-hot encoding of its argument, the argument unchanged. -/
theorem kernel_run : θ_run defs (onTc (τ := τ) (main (F := Ideal))) ⟨m, fun _ => 0, ρ⟩ fun r => ∀ c : Dev nD,
      r.2.mem ((c : Thread nD τ).loc main_v2) = oneHot (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.OneHot

end
-- ==== Proof.OneHotClaim.lean ====
/- What the reference computes, and the equation of the two programs. -/
module

public import proofs.«01_k».proof.Defs
public import proofs.«01_k».proof.Proof.Array
public import proofs.«01_k».proof.Proof.Gen.ReferenceIdeal.Run
public import Idealize.ShloMosaic.Lib.Claim
public import Idealize.ShloMosaic.Lib.Quiescent

@[expose] public section

noncomputable section

namespace Cert.OneHot

open Cert.ReferenceIdeal Cert.ReferenceIdeal.Gen
open Idealize.ShloMosaic Idealize.ShloMosaic.TcCoe Idealize.SL.Sem

/-- The reference's lines — index and class numbers broadcast against each other, compared, converted — give the one-hot
    encoding. -/
theorem reference_eq (x : Vec Ideal S1024x20 .i32) :
    (uitofp .f32 (cmpi .eq
      (broadcastInDim S1024x20x1000 ![0, 1, 2] bcast_S1024x20x1_S1024x20x1000_0_1_2
        (broadcastInDim S1024x20x1 ![0, 1] bcast_S1024x20_S1024x20x1_0_1 x))
      (broadcastInDim S1024x20x1000 ![0, 1, 2] bcast_S1x1x1000_S1024x20x1000_0_1_2 (iotaInDim S1x1x1000 32 2)))
      : FVec Ideal S1024x20x1000 .f32) = oneHot x := by
  funext y
  have word : broadcastInDim S1024x20x1000 ![0, 1, 2] bcast_S1024x20x1_S1024x20x1000_0_1_2
      (broadcastInDim S1024x20x1 ![0, 1] bcast_S1024x20_S1024x20x1_0_1 x) y
        = x (fun | ⟨0, _⟩ => y 0 | ⟨1, _⟩ => y 1) := by
    refine (broadcastInDim_apply _ _ _ y (show S1024x20x1.Idx from fun | ⟨0, _⟩ => y 0 | ⟨1, _⟩ => y 1 | ⟨2, _⟩ => ⟨0, Nat.one_pos⟩) fun a => ?_).trans
      (broadcastInDim_apply _ _ _ _ _ fun a => ?_)
    · match a with | ⟨0, _⟩ => rfl | ⟨1, _⟩ => rfl | ⟨2, _⟩ => rfl
    · match a with | ⟨0, _⟩ => rfl | ⟨1, _⟩ => rfl
  have cls : broadcastInDim S1024x20x1000 ![0, 1, 2] bcast_S1x1x1000_S1024x20x1000_0_1_2 (iotaInDim S1x1x1000 32 2) y
      = BitVec.ofNat 32 (y 2).val := by
    refine (broadcastInDim_apply _ _ _ y (show S1x1x1000.Idx from fun | ⟨0, _⟩ => ⟨0, Nat.one_pos⟩ | ⟨1, _⟩ => ⟨0, Nat.one_pos⟩ | ⟨2, _⟩ => y 2) fun a => ?_).trans rfl
    match a with | ⟨0, _⟩ => rfl | ⟨1, _⟩ => rfl | ⟨2, _⟩ => rfl
  show FloatOps.uitofp (F := Ideal) .f32 (IntOp.cmpi .eq _ _) = _
  rw [word, cls, uitofp_eq_hot]
  rfl

/-- The reference runs, leaves its argument as it was and declares no semaphore. -/
theorem frame_reference : Cert.quiescent_ReferenceIdeal := fun m ρ _ =>
  (θ_run defs _ _).mono (fun r h => ⟨fun c => (h c).2, sem_eq_zero_of_no_sems (by decide) r.2⟩)
    (Cert.ReferenceIdeal.Value.run (F := Ideal) m ρ)

/-- Over the extended reals the kernel and the reference end with the same array: the one-hot encoding of the argument. -/
theorem algebraic : Cert.algebraic_KernelIdeal_ReferenceIdeal := by
  intro m ρ m' ρ' _ hagree
  refine ⟨fun c => oneHot (m ((c : Thread Cert.KernelIdeal.nD Cert.KernelIdeal.τ).loc Cert.KernelIdeal.main_arg0)), kernel_run m ρ, ?_⟩
  refine (θ_run defs _ _).mono (fun _ h c => ⟨(h c).1.trans ?_, (h c).2⟩) (Cert.ReferenceIdeal.Value.run (F := Ideal) m' ρ')
  rw [hagree c]
  exact reference_eq _

end Cert.OneHot

end
-- ==== Proof.lean ====
/- The claims of the certificate, assembled: the kernel's frames, the reference's frame, and the value claim of
   `Proof/OneHotClaim.lean` (the kernel's result is the one-hot encoding that the reference computes). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.OneHotClaim
public import Idealize.ShloMosaic.Adequacy
public import Idealize.ShloMosaic.Init

@[expose] public section

noncomputable section

namespace Cert.Proof

open Idealize.ShloMosaic Idealize.SL.Sem Cert.Kernel

/-- All five claims: the three frames (the kernels' generated, the reference's read off its run), the ideal program the
    kernel's own text, and the kernel's result equal to the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.OneHot.frame_reference, trivial,
  Cert.OneHot.algebraic⟩

end Cert.Proof

end
